-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_positive [hPre_scale_positive : Cert.Pre_scale_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scale_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_positive [hPre_scale_positive : Cert.Pre_scale_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scale_positive [hKernelIdeal : Cert.KernelIdeal.Facts] [hPre_scale_positive : Cert.Pre_scale_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scale_positive [hReferenceIdeal : Cert.ReferenceIdeal.Facts] [hPre_scale_positive : Cert.Pre_scale_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scale_positive [hKernelIdeal : Cert.KernelIdeal.Facts] [hReferenceIdeal : Cert.ReferenceIdeal.Facts] [hPre_scale_positive : Cert.Pre_scale_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scale_positive : Cert.Pre_scale_positive.Facts),
    quiescent_Kernel (hKernel := hKernel)
    ∧ quiescent_KernelIdeal (hKernelIdeal := hKernelIdeal)
    ∧ quiescent_KernelIdeal_pre_scale_positive (hKernelIdeal := hKernelIdeal) (hPre_scale_positive := hPre_scale_positive)
    ∧ quiescent_ReferenceIdeal (hReferenceIdeal := hReferenceIdeal)
    ∧ quiescent_ReferenceIdeal_pre_scale_positive (hReferenceIdeal := hReferenceIdeal) (hPre_scale_positive := hPre_scale_positive)
    ∧ preserves_Kernel_KernelIdeal
    ∧ algebraic_KernelIdeal_ReferenceIdeal_pre_scale_positive (hKernelIdeal := hKernelIdeal) (hReferenceIdeal := hReferenceIdeal) (hPre_scale_positive := hPre_scale_positive)
-- ==== Pre_scale_positive.lean ====
abbrev S16x256x128x128 : Shape := ⟨4, ![16, 256, 128, 128]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S16x256x128x128 .f32) (main_arg1 : FVec F S1 .f32) : IVec S1 1 :=
  let main_cst : FVec F S_ .f32 := constant S_ .f32 0x00000000#32
  let main_v0 : FVec F S1 .f32 := broadcastInDim S1 ![] bcast_S_S1 main_cst
  let main_v1 : IVec S1 1 := cmpf .ogt main_arg1 main_v0
  let main_cst_0 : FVec F S_ .f32 := constant S_ .f32 0x7F800000#32
  let main_v2 : FVec F S1 .f32 := broadcastInDim S1 ![] bcast_S_S1 main_cst_0
  let main_v3 : IVec S1 1 := cmpf .olt main_arg1 main_v2
  let main_v4 : IVec S1 1 := andi main_v1 main_v3
  main_v4
-- ==== Kernel.lean ====
abbrev S16x256x128x128 : Shape := ⟨4, ![16, 256, 128, 128]⟩
abbrev S1 : Shape := ⟨1, ![1]⟩
abbrev S4096x16384 : Shape := ⟨2, ![4096, 16384]⟩
abbrev S4096x1 : Shape := ⟨2, ![4096, 1]⟩
abbrev S128x16384 : Shape := ⟨2, ![128, 16384]⟩
abbrev S128x1 : Shape := ⟨2, ![128, 1]⟩
abbrev S128 : Shape := ⟨1, ![128]⟩
abbrev S16x256x1x1 : Shape := ⟨4, ![16, 256, 1, 1]⟩

abbrev nBuf : Space → Nat
  | .hbm => 5
  | .vmem => 5
  | .smem => 1
  | _ => 0

abbrev bufTy : (tb : Table) → Fin (tcTables nBuf tb) → BufTy
  | .hbm, ⟨0, _⟩ => ⟨S16x256x128x128, .f32⟩
  | .hbm, ⟨1, _⟩ => ⟨S1, .f32⟩
  | .hbm, ⟨2, _⟩ => ⟨S4096x16384, .f32⟩
  | .hbm, ⟨3, _⟩ => ⟨S4096x1, .f32⟩
  | .hbm, ⟨4, _⟩ => ⟨S16x256x1x1, .f32⟩
  | .local _ .vmem, ⟨0, _⟩ => ⟨S128x16384, .f32⟩
  | .local _ .vmem, ⟨1, _⟩ => ⟨S128x16384, .f32⟩
  | .local _ .vmem, ⟨2, _⟩ => ⟨S128x1, .f32⟩
  | .local _ .vmem, ⟨3, _⟩ => ⟨S128x1, .f32⟩
  | .local _ .vmem, ⟨4, _⟩ => ⟨S128x16384, .f32⟩
  | .local _ .smem, ⟨0, _⟩ => ⟨S1, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c30_i32 : BitVec 32 := 30#32
  let v14 : BitVec 32 := Scalar.addi c0_i32 c30_i32
  let c1_i32 : BitVec 32 := 1#32
  ⟨c0_i32, v14, c1_i32⟩
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x256x128x128 : Shape := ⟨4, ![16, 256, 128, 128]⟩
abbrev S1 : Shape := ⟨1, ![1]⟩
abbrev S_ : Shape := ⟨0, ![]⟩
abbrev S16x256x16384 : Shape := ⟨3, ![16, 256, 16384]⟩
abbrev S16x256 : Shape := ⟨2, ![16, 256]⟩
abbrev S16x256x1 : Shape := ⟨3, ![16, 256, 1]⟩
abbrev S16x256x1x1 : Shape := ⟨4, ![16, 256, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S1, .f32⟩
  | .hbm, ⟨2, _⟩ => ⟨S_, .f32⟩
  | .hbm, ⟨3, _⟩ => ⟨S16x256x16384, .f32⟩
  | .hbm, ⟨4, _⟩ => ⟨S_, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S_, .i32⟩
  | .hbm, ⟨10, _⟩ => ⟨S16x256x16384, .f32⟩
  | .hbm, ⟨11, _⟩ => ⟨S_, .f32⟩
  | .hbm, ⟨12, _⟩ => ⟨S_, .i32⟩
  | .hbm, ⟨13, _⟩ => ⟨S16x256, .f32⟩
  | .hbm, ⟨14, _⟩ => ⟨S_, .i32⟩
  | .hbm, ⟨15, _⟩ => ⟨S_, .i1⟩
  | .hbm, ⟨16, _⟩ => ⟨S16x256x1, .f32⟩
  | .hbm, ⟨17, _⟩ => ⟨S16x256x16384, .f32⟩
  | .hbm, ⟨18, _⟩ => ⟨S16x256x16384, .f32⟩
  | .hbm, ⟨19, _⟩ => ⟨S16x256x16384, .f32⟩
  | .hbm, ⟨20, _⟩ => ⟨S16x256x16384, .f32⟩
  | .hbm, ⟨21, _⟩ => ⟨S16x256x16384, .f32⟩
  | .hbm, ⟨22, _⟩ => ⟨S_, .f32⟩
  | .hbm, ⟨23, _⟩ => ⟨S16x256x16384, .f32⟩
  | .hbm, ⟨24, _⟩ => ⟨S16x256x16384, .f32⟩
  | .hbm, ⟨25, _⟩ => ⟨S_, .f32⟩
  | .hbm, ⟨26, _⟩ => ⟨S16x256x16384, .f32⟩
  | .hbm, ⟨27, _⟩ => ⟨S16x256x16384, .f32⟩
  | .hbm, ⟨28, _⟩ => ⟨S16x256x16384, .f32⟩
  | .hbm, ⟨29, _⟩ => ⟨S_, .f32⟩
  | .hbm, ⟨30, _⟩ => ⟨S16x256, .f32⟩
  | .hbm, ⟨31, _⟩ => ⟨S_, .f32⟩
  | .hbm, ⟨32, _⟩ => ⟨S16x256x16384, .f32⟩
  | .hbm, ⟨33, _⟩ => ⟨S16x256x16384, .f32⟩
  | .hbm, ⟨34, _⟩ => ⟨S_, .f32⟩
  | .hbm, ⟨35, _⟩ => ⟨S16x256, .f32⟩
  | .hbm, ⟨36, _⟩ => ⟨S16x256, .f32⟩
  | .hbm, ⟨37, _⟩ => ⟨S16x256, .f32⟩
  | .hbm, ⟨38, _⟩ => ⟨S_, .i32⟩
  | .hbm, ⟨39, _⟩ => ⟨S_, .i32⟩
  | .hbm, ⟨40, _⟩ => ⟨S16x256x1x1, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_while0c_c_4 : Ref sig .tc := ⟨.hbm, 14, rfl⟩
abbrev main_while0c_v7 : Ref sig .tc := ⟨.hbm, 15, rfl⟩
abbrev main_while0b_v7 : Ref sig .tc := ⟨.hbm, 16, rfl⟩
abbrev main_while0b_v8 : Ref sig .tc := ⟨.hbm, 17, rfl⟩
abbrev main_while0b_v9 : Ref sig .tc := ⟨.hbm, 18, rfl⟩
abbrev main_while0b_v10 : Ref sig .tc := ⟨.hbm, 19, rfl⟩
abbrev main_while0b_v11 : Ref sig .tc := ⟨.hbm, 20, rfl⟩
abbrev main_while0b_v12 : Ref sig .tc := ⟨.hbm, 21, rfl⟩
abbrev main_while0b_cst_4 : Ref sig .tc := ⟨.hbm, 22, rfl⟩
abbrev main_while0b_v13 : Ref sig .tc := ⟨.hbm, 23, rfl⟩
abbrev main_while0b_v14 : Ref sig .tc := ⟨.hbm, 24, rfl⟩
abbrev main_while0b_cst_5 : Ref sig .tc := ⟨.hbm, 25, rfl⟩
abbrev main_while0b_v15 : Ref sig .tc := ⟨.hbm, 26, rfl⟩
abbrev main_while0b_v16 : Ref sig .tc := ⟨.hbm, 27, rfl⟩
abbrev main_while0b_v17 : Ref sig .tc := ⟨.hbm, 28, rfl⟩
abbrev main_while0b_cst_6 : Ref sig .tc := ⟨.hbm, 29, rfl⟩
abbrev main_while0b_v18 : Ref sig .tc := ⟨.hbm, 30, rfl⟩
abbrev main_while0b_cst_7 : Ref sig .tc := ⟨.hbm, 31, rfl⟩
abbrev main_while0b_v19 : Ref sig .tc := ⟨.hbm, 32, rfl⟩
abbrev main_while0b_v20 : Ref sig .tc := ⟨.hbm, 33, rfl⟩
abbrev main_while0b_cst_8 : Ref sig .tc := ⟨.hbm, 34, rfl⟩
abbrev main_while0b_v21 : Ref sig .tc := ⟨.hbm, 35, rfl⟩
abbrev main_while0b_v22 : Ref sig .tc := ⟨.hbm, 36, rfl⟩
abbrev main_while0b_v23 : Ref sig .tc := ⟨.hbm, 37, rfl⟩
abbrev main_while0b_c_9 : Ref sig .tc := ⟨.hbm, 38, rfl⟩
abbrev main_while0b_v24 : Ref sig .tc := ⟨.hbm, 39, rfl⟩
abbrev main_v6 : Ref sig .tc := ⟨.hbm, 40, rfl⟩

abbrev nD : Nat := 1
abbrev τ : Topo := Topo.v7x

variable {F : FTy → Type} [FloatOps F]

abbrev main_while0_count : Scf.Loop 32 := ⟨0#32, 30#32, 1#32⟩
-- ==== Proof.Newton.lean ====
/- The mathematics of one row, over the extended reals: a Newton step of the pooling equation written as the reference
   writes it, the same step on entries multiplied by the reciprocal of the scale as the kernel takes it, and the proof that
   the second is the first multiplied by that reciprocal. -/
module

public import Idealize.ShloMosaic.PureOps.Ideal
public import Idealize.ShloMosaic.PureOps.Ideal.Laws
public import Idealize.ShloMosaic.Lib.IdealHost

@[expose] public section

noncomputable section

namespace Cert.RobustPool

open Idealize.ShloMosaic
open scoped BigOperators

/-! ## The numbers the programs write as bit patterns -/

/-- The pattern of 16384, the length of a row. -/
theorem lit_count : Ideal.ofBits .f32 0x46800000#32 = ((16384 : ℝ) : EReal) := by
  simp [Ideal.ofBits, Ideal.ieee, -EReal.coe_mul]; norm_num

/-- The pattern of minus one half. -/
theorem lit_neg_half : Ideal.ofBits .f32 0xBF000000#32 = ((-(1 / 2) : ℝ) : EReal) := by
  simp [Ideal.ofBits, Ideal.ieee, -EReal.coe_mul, -EReal.coe_neg]; norm_num

/-- The pattern of minus three halves. -/
theorem lit_neg_three_halves : Ideal.ofBits .f32 0xBFC00000#32 = ((-(3 / 2) : ℝ) : EReal) := by
  simp [Ideal.ofBits, Ideal.ieee, -EReal.coe_mul, -EReal.coe_neg]; norm_num

/-- The pattern of positive infinity. -/
theorem lit_inf : Ideal.ofBits .f32 0x7F800000#32 = (⊤ : EReal) := by
  simp [Ideal.ofBits, Ideal.ieee]

/-! ## Powers of a number that is at least one -/

/-- One plus a square is at least one, whatever the number squared. -/
theorem one_le_one_add_sq (u : EReal) : 1 ≤ 1 + u * u :=
  le_add_of_nonneg_right (EReal.mul_nonneg_iff.mpr ((le_total 0 u).imp (fun h => ⟨h, h⟩) fun h => ⟨h, h⟩))

/-- A real to a real power is the real power. -/
theorem pow_real (r y : ℝ) : Ideal.pow (r : EReal) (y : EReal) = ((r ^ y : ℝ) : EReal) := rfl

/-- The infinite number to a negative real power is zero. -/
theorem pow_top_neg {y : ℝ} (hy : y < 0) : Ideal.pow ⊤ (y : EReal) = 0 := by
  show (if (0 : EReal) < (y : EReal) then (⊤ : EReal) else if (y : EReal) = 0 then 1 else 0) = 0
  rw [if_neg (not_lt.mpr (EReal.coe_nonpos.mpr hy.le)), if_neg (by rw [EReal.coe_eq_zero]; exact hy.ne)]

/-- At a number at least one the reciprocal square root is the power of exponent minus one half. -/
theorem rsqrt_eq_pow {t : EReal} (ht : 1 ≤ t) : Ideal.rsqrt t = Ideal.pow t ((-(1 / 2) : ℝ) : EReal) := by
  induction t using EReal.rec with
  | bot => exact absurd (le_bot_iff.mp ht) (by decide)
  | top => rw [pow_top_neg (by norm_num)]; rfl
  | coe r =>
    have hr : (1 : ℝ) ≤ r := by exact_mod_cast ht
    have hr0 : ¬ r < 0 := by linarith
    have hr1 : r ≠ 0 := by linarith
    rw [pow_real, Real.rpow_neg (by linarith), ← Real.sqrt_eq_rpow]
    show (if r < 0 then (⊥ : EReal) else if r = 0 then ⊤ else (((Real.sqrt r)⁻¹ : ℝ) : EReal)) = _
    rw [if_neg hr0, if_neg hr1]

/-- At a number at least one the cube of the reciprocal square root is the power of exponent minus three halves. -/
theorem rsqrt_cube_eq_pow {t : EReal} (ht : 1 ≤ t) :
    Ideal.rsqrt t * Ideal.rsqrt t * Ideal.rsqrt t = Ideal.pow t ((-(3 / 2) : ℝ) : EReal) := by
  rw [rsqrt_eq_pow ht]
  induction t using EReal.rec with
  | bot => exact absurd (le_bot_iff.mp ht) (by decide)
  | top => rw [pow_top_neg (by norm_num), pow_top_neg (by norm_num), mul_zero]
  | coe r =>
    have hr : (0 : ℝ) < r := lt_of_lt_of_le one_pos (by exact_mod_cast ht)
    rw [pow_real, pow_real, ← EReal.coe_mul, ← EReal.coe_mul, ← Real.rpow_add hr, ← Real.rpow_add hr]
    norm_num

/-! ## Multiplying by a positive real -/

section Scaling

variable {k : ℝ}

/-- A positive real factor goes through a difference of extended reals. -/
theorem sub_mul_pos (hk : 0 < k) (a b : EReal) : (a - b) * (k : EReal) = a * k - b * k := by
  rw [sub_eq_add_neg, sub_eq_add_neg,
    EReal.right_distrib_of_nonneg_of_ne_top (EReal.coe_nonneg.mpr hk.le) (EReal.coe_ne_top k), EReal.neg_mul]

/-- A positive real factor goes through a finite sum of extended reals. -/
theorem sum_mul_pos {ι : Type} (hk : 0 < k) (S : Finset ι) (f : ι → EReal) :
    (∑ i ∈ S, f i) * (k : EReal) = ∑ i ∈ S, f i * k := by
  classical
  induction S using Finset.induction_on with
  | empty => simp
  | insert a S ha ih =>
    rw [Finset.sum_insert ha, Finset.sum_insert ha,
      EReal.right_distrib_of_nonneg_of_ne_top (EReal.coe_nonneg.mpr hk.le) (EReal.coe_ne_top k), ih]

/-- A positive real factor of the dividend is a factor of the quotient, the divisor zero included. -/
theorem div_mul_pos (hk : 0 < k) (g h : EReal) : Ideal.div (g * k) h = Ideal.div g h * (k : EReal) := by
  unfold Ideal.div
  split_ifs with h0 hgk hg hg
  · rw [EReal.top_mul_coe_of_pos hk]
  · exfalso
    refine hg ?_
    rcases lt_or_ge 0 g with hp | hn
    · exact hp
    · exact absurd hgk (not_lt.mpr (mul_nonpos_of_nonpos_of_nonneg hn (EReal.coe_nonneg.mpr hk.le)))
  · exact absurd (EReal.mul_pos hg (EReal.coe_pos.mpr hk)) hgk
  · rw [EReal.bot_mul_coe_of_pos hk]
  · rw [mul_assoc, mul_assoc, mul_comm (k : EReal)]

end Scaling

/-! ## One row -/

section Row

variable {ι : Type} [Fintype ι]

/-- The mean of a row of 16384 entries. -/
def mean (X : ι → EReal) : EReal := Ideal.div (∑ k, X k) ((16384 : ℝ) : EReal)

/-- The base of the powers in a step: one plus the square of the scaled distance of the entry `x` from `y`. -/
def base (s y x : EReal) : EReal := 1 + Ideal.div (y - x) s * Ideal.div (y - x) s

/-- A Newton step on the row `X` at the scale `s`, from `y`: the reference's. -/
def newton (s : EReal) (X : ι → EReal) (y : EReal) : EReal :=
  y - Ideal.div (∑ k, (y - X k) * Ideal.pow (base s y (X k)) ((-(1 / 2) : ℝ) : EReal))
    (∑ k, Ideal.pow (base s y (X k)) ((-(3 / 2) : ℝ) : EReal))

/-- The factor of an entry `z` away from the current value: the reciprocal square root of one plus its square. -/
def weight (z : EReal) : EReal := Ideal.rsqrt (1 + z * z)

/-- A Newton step on the row `Z` at unit scale, from `c`: the kernel's, on a row it has scaled. -/
def unitNewton (Z : ι → EReal) (c : EReal) : EReal :=
  c - Ideal.div (∑ k, (c - Z k) * weight (c - Z k))
    (∑ k, weight (c - Z k) * weight (c - Z k) * weight (c - Z k))

/-- What the reference pools a row to: thirty steps from its mean. -/
def pooled (s : EReal) (X : ι → EReal) : EReal := (newton s X)^[30] (mean X)

/-- What the kernel pools a row to: the entries multiplied by the reciprocal of the scale, thirty steps at unit scale from
    their mean, and the result multiplied by the scale. -/
def scaledPooled (s : EReal) (X : ι → EReal) : EReal :=
  (unitNewton fun k => X k * Ideal.div 1 s)^[30] (mean fun k => X k * Ideal.div 1 s) * s

variable {s : ℝ}

/-- The mean of a row multiplied by a positive real is the mean multiplied by it. -/
theorem mean_scaled {k : ℝ} (hk : 0 < k) (X : ι → EReal) : mean (fun i => X i * (k : EReal)) = mean X * k := by
  unfold mean
  rw [← sum_mul_pos hk, div_mul_pos hk]

/-- The unit step on a row multiplied by the reciprocal of the scale, from a value multiplied by it, is the step at the
    scale multiplied by it. -/
theorem unitNewton_scaled (hs : 0 < s) (X : ι → EReal) (y : EReal) :
    unitNewton (fun i => X i * ((1 / s : ℝ) : EReal)) (y * ((1 / s : ℝ) : EReal))
      = newton (s : EReal) X y * ((1 / s : ℝ) : EReal) := by
  have hk : 0 < 1 / s := one_div_pos.mpr hs
  have hz : ∀ i, y * ((1 / s : ℝ) : EReal) - X i * ((1 / s : ℝ) : EReal) = Ideal.div (y - X i) (s : EReal) := fun i => by
    rw [Ideal.div_coe hs.ne', sub_mul_pos hk]
  have hw : ∀ i, weight (Ideal.div (y - X i) (s : EReal))
      = Ideal.pow (base (s : EReal) y (X i)) ((-(1 / 2) : ℝ) : EReal) := fun i => by
    unfold weight base; exact rsqrt_eq_pow (one_le_one_add_sq _)
  have hw3 : ∀ i, weight (Ideal.div (y - X i) (s : EReal)) * weight (Ideal.div (y - X i) (s : EReal))
        * weight (Ideal.div (y - X i) (s : EReal))
      = Ideal.pow (base (s : EReal) y (X i)) ((-(3 / 2) : ℝ) : EReal) := fun i => by
    unfold weight base; exact rsqrt_cube_eq_pow (one_le_one_add_sq _)
  have hg : ∀ i, Ideal.div (y - X i) (s : EReal) * Ideal.pow (base (s : EReal) y (X i)) ((-(1 / 2) : ℝ) : EReal)
      = (y - X i) * Ideal.pow (base (s : EReal) y (X i)) ((-(1 / 2) : ℝ) : EReal) * ((1 / s : ℝ) : EReal) := fun i => by
    rw [Ideal.div_coe hs.ne', mul_assoc, mul_assoc, mul_comm (((1 / s : ℝ) : EReal))]
  unfold unitNewton newton
  simp only [hz, hw3]
  simp only [hw, hg]
  rw [← sum_mul_pos hk, div_mul_pos hk, sub_mul_pos hk]

/-- So are any number of steps. -/
theorem unitNewton_iterate_scaled (hs : 0 < s) (X : ι → EReal) (y : EReal) (n : ℕ) :
    (unitNewton fun i => X i * ((1 / s : ℝ) : EReal))^[n] (y * ((1 / s : ℝ) : EReal))
      = (newton (s : EReal) X)^[n] y * ((1 / s : ℝ) : EReal) := by
  induction n with
  | zero => rfl
  | succ n ih => rw [Function.iterate_succ_apply', Function.iterate_succ_apply', ih, unitNewton_scaled hs]

/-- THE EQUATION: at a positive real scale the kernel pools a row of extended reals to what the reference does. -/
theorem scaledPooled_eq_pooled (hs : 0 < s) (X : ι → EReal) : scaledPooled (s : EReal) X = pooled (s : EReal) X := by
  have h1 : Ideal.div 1 (s : EReal) = ((1 / s : ℝ) : EReal) := by rw [Ideal.div_coe hs.ne', one_mul]
  unfold scaledPooled pooled
  rw [h1, mean_scaled (one_div_pos.mpr hs), unitNewton_iterate_scaled hs, mul_assoc, ← EReal.coe_mul,
    one_div_mul_cancel hs.ne', EReal.coe_one, mul_one]

end Row

end Cert.RobustPool

end
-- ==== Proof.KernelBlock.lean ====
/- What the kernel leaves in its output block at a grid point, as the printed steps of its body. -/
module

public import proofs.«01_k».proof.Proof.Newton
public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Block

open Idealize.ShloMosaic Idealize.ShloMosaic.Tactic
open Cert.KernelIdeal Cert.KernelIdeal.Gen

variable {F : FTy → Type} [FloatOps F]

/-- The offsets of a whole two-axis block are zero. -/
theorem off2 : (![0, 0] : Fin 2 → Nat) = fun _ => 0 := by funext a; fin_cases a <;> rfl

/-- The offset of a whole one-axis block is zero. -/
theorem off1 : (![0] : Fin 1 → Nat) = fun _ => 0 := by funext a; fin_cases a; rfl

/-- A loop whose trips all apply one function is that function iterated. -/
theorem fold_const {σ : Type} {n : ℕ} (g : σ → σ) (x : σ) : Scf.fold (fun (_ : Fin n) a => g a) x = g^[n] x := by
  rw [Scf.fold_eq, List.foldl_const, List.length_finRange]

/-- The loop of the body makes thirty trips. -/
theorem trips_eq : k0_t1_loop.trips = 30 := by decide

/-- The block the body leaves, of the scale `s` and the block of entries: the scaled entries, thirty steps from their mean,
    the result multiplied by the scale. -/
def blockOut (s : Elt F .f32) (x1 : Vec F S128x16384 .f32) : Vec F S128x1 .f32 :=
  k0_pay4 s ((k0_pay3 (k0_pay1 s x1))^[30] (k0_pay2 (k0_pay1 s x1)))

/-- The output block of the body's run is `blockOut` of the scale's cell and the entries' block. -/
theorem out_eq (c : Dev nD) (i : grid0.Coords) (arg1 : Memref sig .tc .smem S1 .f32) (harg1 : arg1.IsWhole)
    (arg2 : Memref sig .tc .vmem S128x16384 .f32) (harg2 : arg2.IsWhole) (arg3 : Memref sig .tc .vmem S128x1 .f32)
    (harg3 : arg3.IsWhole) (arg4 : Memref sig .tc .vmem S128x16384 .f32) (harg4 : arg4.IsWhole)
    (x0 : Vec F S1 .f32) (x1 : Vec F S128x16384 .f32) :
    out0_A_2 c i arg1 harg1 arg2 harg2 arg3 harg3 arg4 harg4 x0 x1 = blockOut (x0 (Shape.Idx.first (by decide))) x1 := by
  unfold out0_A_2
  rw [View.read_writes_eq_canon _ _ _ (cover0_A_2 c i arg1 harg1 arg2 harg2 arg3 harg3 arg4 harg4 x0 x1)]
  unfold kernelRun0_A
  dsimp only
  sl_unfold_words
  rw [View.canon_unit_zero (S := S128x1) off2]
  simp only [View.readAt_eq_ld, harg1.read_unread, harg2.read_unread, View.ld_unit_zero (S := S128x16384) off2,
    View.readCov_unit_zero (S := S128x16384) _ off2]
  rw [fold_const, trips_eq]
  have h0 : View.ld x0 (Rect.unit (s := S1) ![0] S1.size inb_S1_S1_0) = x0 := View.ld_unit_zero (S := S1) off1 _ x0
  have h1 := congrFun h0 (Shape.Idx.first (by decide))
  unfold blockOut
  rw [← h1]

end Cert.KernelIdeal.Block

end
-- ==== Proof.RowValue.lean ====
/- One row of a grid point's block, and one row of the reference's state, over the extended reals. -/
module

public import proofs.«01_k».proof.Proof.KernelBlock
public import proofs.«01_k».proof.Proof.Gen.ReferenceIdeal.Step
public import Idealize.ShloMosaic.Lib.Pointwise

@[expose] public section

set_option maxRecDepth 16384

noncomputable section

open Idealize.ShloMosaic Idealize.ShloMosaic.Pointwise
open Cert.RobustPool
open scoped BigOperators

namespace Cert.KernelIdeal.Row

open Cert.KernelIdeal Cert.KernelIdeal.Gen Cert.KernelIdeal.Block

/-- A scaled entry is the entry multiplied by the reciprocal of the scale. -/
theorem scaled_at (s : Elt Ideal .f32) (v : Vec Ideal S128x16384 .f32) (r : Fin 128) (n : Fin 16384) :
    k0_pay1 s v (ix2 r n) = v (ix2 r n) * Ideal.div 1 s := by
  pointwise [k0_pay1]

/-- The value the steps start from is the mean of the row. -/
theorem mean_at (v : Vec Ideal S128x16384 .f32) (r : Fin 128) (z : Fin 1) :
    k0_pay2 v (ix2 r z) = mean fun n : Fin 16384 => v (ix2 r n) := by
  pointwise [k0_pay2]
  rw [lit_count]; rfl

/-- One trip of the loop is a Newton step on each row. -/
theorem step_at (v : Vec Ideal S128x16384 .f32) (a : FVec Ideal S128x1 .f32) (r : Fin 128) (z : Fin 1) :
    k0_pay3 v a (ix2 r z) = unitNewton (fun n : Fin 16384 => v (ix2 r n)) (a (ix2 r z)) := by
  obtain rfl : z = 0 := Subsingleton.elim _ _
  pointwise [k0_pay3]
  rfl

/-- So any number of trips is as many Newton steps on each row. -/
theorem iterate_at (v : Vec Ideal S128x16384 .f32) (a : FVec Ideal S128x1 .f32) (r : Fin 128) (z : Fin 1) (k : ℕ) :
    (k0_pay3 v)^[k] a (ix2 r z) = (unitNewton fun n : Fin 16384 => v (ix2 r n))^[k] (a (ix2 r z)) := by
  induction k with
  | zero => rfl
  | succ k ih => rw [Function.iterate_succ_apply', Function.iterate_succ_apply', step_at, ih]

/-- A block's result at a row is what the kernel pools the row to. -/
theorem blockOut_at (s : Elt Ideal .f32) (v : Vec Ideal S128x16384 .f32) (r : Fin 128) (z : Fin 1) :
    blockOut s v (ix2 r z) = scaledPooled s fun n : Fin 16384 => v (ix2 r n) := by
  unfold blockOut scaledPooled
  pointwise [k0_pay4]
  rw [iterate_at, mean_at]
  simp only [scaled_at]

end Cert.KernelIdeal.Row

namespace Cert.ReferenceIdeal.Row

open Cert.ReferenceIdeal Cert.ReferenceIdeal.Step

/-- One trip of the reference's loop is a Newton step on each row. -/
theorem step_at (j : ℕ) (st : State Ideal) (b : Fin 16) (c : Fin 256) :
    (step j st).main_v5_3 (ix2 b c)
      = newton (st.main_v5_1 ix0) (fun n : Fin 16384 => st.main_v5_0 (ix3 b c n)) (st.main_v5_3 (ix2 b c)) := by
  pointwise [step, b21, b20, b19, b18, b17, b16, b15, b14, b13, b12, b11, b10, b9, b8, b7, b6, b5, b4, b3, b2, b1, b0]
  rw [lit_neg_half, lit_neg_three_halves]; rfl

/-- The state's values start at the means of its rows. -/
theorem init_at (x : Vec Ideal S16x256x128x128 .f32) (s : Vec Ideal S1 .f32) (b : Fin 16) (c : Fin 256) :
    (init x s).main_v5_3 (ix2 b c) = mean fun n : Fin 16384 => (init x s).main_v5_0 (ix3 b c n) := by
  pointwise [init, A_main_v4, A_main_v2, K_main_v3, K_main_cst_0, K_main_cst]
  rw [lit_count]; rfl

/-- The state's scale is the scale's one entry. -/
theorem init_scale (x : Vec Ideal S16x256x128x128 .f32) (s : Vec Ideal S1 .f32) :
    (init x s).main_v5_1 ix0 = s (ix1 0) := by
  pointwise [init, A_main_v0]

/-- The state after `k` trips. -/
def states (x : Vec Ideal S16x256x128x128 .f32) (s : Vec Ideal S1 .f32) : ℕ → State Ideal
  | 0 => init x s
  | k + 1 => step k (states x s k)

/-- No trip changes the entries or the scale, and the values after `k` trips are `k` Newton steps from the means. -/
theorem states_at (x : Vec Ideal S16x256x128x128 .f32) (s : Vec Ideal S1 .f32) (k : ℕ) :
    (states x s k).main_v5_0 = (init x s).main_v5_0 ∧ (states x s k).main_v5_1 = (init x s).main_v5_1
    ∧ ∀ (b : Fin 16) (c : Fin 256), (states x s k).main_v5_3 (ix2 b c)
        = (newton (s (ix1 0)) fun n : Fin 16384 => (init x s).main_v5_0 (ix3 b c n))^[k]
            (mean fun n : Fin 16384 => (init x s).main_v5_0 (ix3 b c n)) := by
  induction k with
  | zero => exact ⟨rfl, rfl, fun b c => init_at x s b c⟩
  | succ k ih =>
    obtain ⟨h0, h1, h3⟩ := ih
    refine ⟨h0, h1, fun b c => ?_⟩
    show (step k (states x s k)).main_v5_3 (ix2 b c) = _
    rw [step_at, h0, h1, h3, init_scale, Function.iterate_succ_apply']

/-- The reference's result is what it pools each row to. -/
theorem result_at (x : Vec Ideal S16x256x128x128 .f32) (s : Vec Ideal S1 .f32) (b : Fin 16) (c : Fin 256)
    (p q : Fin 1) :
    R_main_v6 (states x s 30) (ix4 b c p q)
      = pooled (s (ix1 0)) fun n : Fin 16384 => (init x s).main_v5_0 (ix3 b c n) := by
  unfold pooled
  rw [← (states_at x s 30).2.2 b c]
  pointwise [R_main_v6]

end Cert.ReferenceIdeal.Row

end
-- ==== Proof.KernelArray.lean ====
/- What the kernel's program leaves in its result: the pooled rows as one column, reshaped to the result's shape. -/
module

public import proofs.«01_k».proof.Proof.RowValue
public import Idealize.ShloMosaic.Lib.StableHlo.Run

@[expose] public section

set_option maxRecDepth 16384

noncomputable section

open Idealize.ShloMosaic Idealize.ShloMosaic.TcCoe Idealize.ShloMosaic.Tactic Idealize.ShloMosaic.Pointwise
open Idealize.SL.Sem
open Idealize.ShloMosaic.Pipeline (Dat)
open Cert.RobustPool

namespace Cert.KernelIdeal.Array

open Cert.KernelIdeal Cert.KernelIdeal.Gen Cert.KernelIdeal.Block Cert.KernelIdeal.Row

variable (m : (ℓ : Loc nD τ sig) → Buf (Elt Ideal) ℓ) (ρ : Dev nD → PrngReg) (c : Dev nD)

/-- The scale as launched. -/
abbrev scale : EReal := (m ((c : Thread nD τ).loc main_arg1) : Vec Ideal S1 .f32) (ix1 0)

/-- The entries as the region finds them: 4096 rows of 16384. -/
abbrev rows : Vec Ideal S4096x16384 .f32 :=
  shapeCast S4096x16384 (m ((c : Thread nD τ).loc main_arg0) : Vec Ideal S16x256x128x128 .f32)
    shapeCasts_S16x256x128x128_S4096x16384

/-- The column of pooled rows. -/
def column : Vec Ideal S4096x1 .f32 := fun i => scaledPooled (scale m c) fun n : Fin 16384 => rows m c (ix2 (i 0) n)

/-- The host's reshape before the region makes the rows. -/
theorem V_rows : (V m c main_v0 : Vec Ideal S4096x16384 .f32) = rows m c := by
  show V0 m c (Proc.devRef .tc main_v0) = _
  unfold V0
  simp only [List.flatten_cons, List.flatten_nil, List.append_nil]
  after_results
  rfl

/-- At point `t` the entries' window and the result's window are at row block `t`. -/
theorem window_index : ∀ t : Fin cfg0.N, (win0_1.index t 0 = t.val ∧ win0_1.index t 1 = 0)
    ∧ (win0_2.index t 0 = t.val ∧ win0_2.index t 1 = 0) ∧ win0_0.index t 0 = 0 := by decide +kernel

/-- The scale's window reads the scale at every point. -/
theorem scale_block (t : Fin cfg0.N) (i : S1.Idx) : (iblk m c 0 t : Vec Ideal S1 .f32) i = scale m c := by
  unfold iblk
  rw [View.read_apply]
  show V m c main_arg1 _ = _
  rw [V_main_arg1]
  unfold scale
  congr 1
  funext a
  apply Fin.ext
  match a with
  | ⟨0, _⟩ =>
    have h : (i 0).val < 1 := (i 0).isLt
    show win0_0.index t 0 * 1 + 1 * (i 0).val = 0
    rw [(window_index t).2.2]; omega

/-- The entries' window at point `t` reads the rows from row `128 t` on. -/
theorem row_block (t : Fin cfg0.N) (r : Fin 128) (n : Fin 16384) (R : Fin 4096) (hR : R.val = 128 * t.val + r.val) :
    (iblk m c 1 t : Vec Ideal S128x16384 .f32) (ix2 r n) = rows m c (ix2 R n) := by
  unfold iblk
  rw [View.read_apply]
  show (V m c main_v0 : Vec Ideal S4096x16384 .f32) _ = _
  rw [V_rows]
  congr 1
  funext a
  apply Fin.ext
  match a with
  | ⟨0, _⟩ => show win0_1.index t 0 * 128 + 1 * r.val = R.val; rw [(window_index t).1.1, hR]; omega
  | ⟨1, _⟩ => show win0_1.index t 1 * 16384 + 1 * n.val = n.val; rw [(window_index t).1.2]; omega

/-- What point `t` writes back is the column's rows from `128 t` on. -/
theorem flushed_eq (t : Fin cfg0.N) (_ : (cfg0.win 2).flush t = true) :
    (dats m 0 c).flushed 2 t = ((cfg0.win 2).blk t).view.read (Elt Ideal) (column m c) := by
  show (cfg0.win 2).cut (grid0.coords t) ((dats m 0 c).after 2 t) = _
  rw [after0_2]
  unfold outsAt0
  rw [out_eq, scale_block]
  funext (j : S128x1.Idx)
  rw [View.read_apply]
  show blockOut (scale m c) (iblk m c 1 t) j = column m c _
  obtain ⟨r, z, rfl⟩ : ∃ (r : Fin 128) (z : Fin 1), j = ix2 r z := ⟨j 0, j 1, by funext a; match a with | ⟨0, _⟩ => rfl | ⟨1, _⟩ => rfl⟩
  rw [blockOut_at]
  unfold column
  congr 1
  funext n
  refine row_block m c t r n _ ?_
  show win0_2.index t 0 * 128 + 1 * r.val = _
  rw [(window_index t).2.1.1]; omega

/-- The result's array ends as the column. -/
theorem array_eq : (dats m 0 c).arrAt 2 cfg0.N = column m c :=
  (dats m 0 c).arrAt_eq_of_cover 2 (column m c) (flushed_eq m c) fun (i : S4096x1.Idx) => by
    have h0 : (i 0).val < 4096 := (i 0).isLt
    have h1 : (i 1).val < 1 := (i 1).isLt
    have hN : cfg0.N = 32 := N_0
    let t : Fin cfg0.N := ⟨(i 0).val / 128, by omega⟩
    have ht : t.val = (i 0).val / 128 := rfl
    refine ⟨t, flush0_2 t, ?_⟩
    show i ∈ ((View.whole main_v1).slice (win0_2.rect t)).set
    rw [View.set_slice_whole, Rect.mem_set_unit]
    intro a
    match a with
    | ⟨0, _⟩ =>
      show win0_2.index t 0 * 128 ≤ (i 0).val ∧ (i 0).val < win0_2.index t 0 * 128 + 128
      rw [(window_index t).2.1.1]; omega
    | ⟨1, _⟩ =>
      show win0_2.index t 1 * 1 ≤ (i 1).val ∧ (i 1).val < win0_2.index t 1 * 1 + 1
      rw [(window_index t).2.1.2]; omega

/-- The program's result: the column reshaped. -/
def result : Vec Ideal S16x256x1x1 .f32 := shapeCast S16x256x1x1 (column m c) shapeCasts_S4096x1_S16x256x1x1

/-- The host's reshape after the region makes the result of the array. -/
theorem tail_eq : Pipeline.afterTail₀ cfgs (dats m) 0 (V0 m) [hostOps1] c main_v2 = result m c := by
  have h : Pipeline.withArrays (cfgs 0).spec c (V0 m c) (fun w => (dats m 0 c).arrAt w (cfgs 0).N) (Proc.devRef .tc main_v1)
      = column m c :=
    (Pipeline.withArrays_arr spec0 launch0.win.arr_inj c (V0 m c) (fun w => (dats m 0 c).arrAt w cfg0.N) 2).trans (array_eq m c)
  unfold Pipeline.afterTail₀ result
  rw [← h]
  simp only [List.flatten_cons, List.flatten_nil, List.append_nil]
  after_results
  rfl

/-- THE RUN: the result holds the pooled rows, and the arguments end unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h.1 c).2 main_v2 (Pipeline.mem_restRefs_of main_v2 (by decide) (by decide))).trans (tail_eq m c), (h.2 c).1, (h.2 c).2⟩)
    (θ_run_and (run_main m ρ) (unchanged m ρ))

end Cert.KernelIdeal.Array

end
-- ==== Proof.Equation.lean ====
/- The kernel's result is the reference's: the two programs index the entries alike, the scale's condition says that it is a
   positive real, and a row is then pooled to the same number. -/
module

public import proofs.«01_k».proof.Proof.KernelArray
public import proofs.«01_k».proof.Proof.Gen.ReferenceIdeal.StepRun
public import proofs.«01_k».proof.Proof.Gen.Pre_scale_positive
public import proofs.«01_k».proof.Defs

@[expose] public section

set_option maxRecDepth 16384

noncomputable section

open Idealize.ShloMosaic Idealize.ShloMosaic.TcCoe Idealize.ShloMosaic.Pointwise
open Idealize.SL.Sem
open Cert.RobustPool

namespace Cert.Equation

/-- The condition on the scale says that its one entry is a positive real. -/
theorem scale_real (x : FVec Ideal Cert.Pre_scale_positive.S16x256x128x128 .f32) (s : FVec Ideal Cert.Pre_scale_positive.S1 .f32)
    (h : Cert.Pre_scale_positive.fn (F := Ideal) x s = fun _ => 1#1) : ∃ σ : ℝ, 0 < σ ∧ s (ix1 0) = (σ : EReal) := by
  have e : Cert.Pre_scale_positive.fn (F := Ideal) x s (ix1 0) = 1#1 := congrFun h (ix1 0)
  have e' : IntOp.andi (Ideal.cmp .ogt (s (ix1 0)) (Ideal.ofBits .f32 0x00000000#32))
      (Ideal.cmp .olt (s (ix1 0)) (Ideal.ofBits .f32 0x7F800000#32)) = 1#1 := e
  rw [Ideal.ofBits_zero_f32, lit_inf] at e'
  have h1 : (0 : EReal) < s (ix1 0) := by
    by_contra hn
    simp [Ideal.cmp, hn, IntOp.andi] at e'
  have h2 : s (ix1 0) < (⊤ : EReal) := by
    by_contra hn
    simp [Ideal.cmp, hn, IntOp.andi] at e'
  refine ⟨(s (ix1 0)).toReal, ?_, (EReal.coe_toReal h2.ne (ne_bot_of_gt h1)).symm⟩
  exact EReal.toReal_pos h1 h2.ne

/-- Entry `n` of row `256 b + c` of the kernel's rows is entry `n` of the reference's row `(b, c)`. -/
theorem rows_eq (x : Vec Ideal Cert.KernelIdeal.S16x256x128x128 .f32) (s : Vec Ideal Cert.ReferenceIdeal.S1 .f32)
    (b : Fin 16) (c : Fin 256) (n : Fin 16384) (R : Fin 4096) (hR : R.val = 256 * b.val + c.val) :
    shapeCast Cert.KernelIdeal.S4096x16384 x Cert.KernelIdeal.Gen.shapeCasts_S16x256x128x128_S4096x16384 (ix2 R n)
      = (Cert.ReferenceIdeal.Step.init x s).main_v5_0 (ix3 b c n) := by
  have hn := n.isLt
  let k : Cert.KernelIdeal.S16x256x128x128.Idx :=
    ix4 b c (⟨n.val / 128, by omega⟩ : Fin 128) (⟨n.val % 128, by omega⟩ : Fin 128)
  have hk : (Cert.KernelIdeal.S16x256x128x128.rowMajor k).val
      = ((b.val * 256 + c.val) * 128 + n.val / 128) * 128 + n.val % 128 := by
    rw [Shape.rowMajor_val_four]; rfl
  refine (shapeCast_apply x _ (ix2 R n) k ?_).trans (shapeCast_apply x _ (ix3 b c n) k ?_).symm
  · rw [hk, Shape.rowMajor_val_two]
    show _ = R.val * 16384 + n.val
    omega
  · rw [hk, Shape.rowMajor_val_three]
    show _ = (b.val * 256 + c.val) * 16384 + n.val
    omega

/-- The kernel's result at `(b, c)` is what it pools row `256 b + c` to. -/
theorem kernel_at (m : (ℓ : Loc Cert.KernelIdeal.nD Cert.KernelIdeal.τ Cert.KernelIdeal.sig) → Buf (Elt Ideal) ℓ)
    (d : Dev Cert.KernelIdeal.nD) (b : Fin 16) (c : Fin 256) (p q : Fin 1) (R : Fin 4096) (hR : R.val = 256 * b.val + c.val) :
    Cert.KernelIdeal.Array.result m d (ix4 b c p q)
      = scaledPooled (Cert.KernelIdeal.Array.scale m d) fun n : Fin 16384 => Cert.KernelIdeal.Array.rows m d (ix2 R n) := by
  have hp := p.isLt
  have hq := q.isLt
  unfold Cert.KernelIdeal.Array.result
  refine (shapeCast_apply _ _ (ix4 b c p q) (ix2 R (0 : Fin 1)) ?_).trans ?_
  · rw [Shape.rowMajor_val_two, Shape.rowMajor_val_four]
    show R.val * 1 + 0 = ((b.val * 256 + c.val) * 1 + p.val) * 1 + q.val
    omega
  · rfl

/-- THE RESULTS AGREE: from memories that agree on the arguments, at a scale that is a positive real. -/
theorem result_eq (m : (ℓ : Loc Cert.KernelIdeal.nD Cert.KernelIdeal.τ Cert.KernelIdeal.sig) → Buf (Elt Ideal) ℓ)
    (d : Dev Cert.KernelIdeal.nD) (x : Vec Ideal Cert.ReferenceIdeal.S16x256x128x128 .f32) (s : Vec Ideal Cert.ReferenceIdeal.S1 .f32)
    (hx : x = m ((d : Thread Cert.KernelIdeal.nD Cert.KernelIdeal.τ).loc Cert.KernelIdeal.main_arg0))
    (hs : s = m ((d : Thread Cert.KernelIdeal.nD Cert.KernelIdeal.τ).loc Cert.KernelIdeal.main_arg1))
    (σ : ℝ) (hσ : 0 < σ) (e : s (ix1 0) = (σ : EReal)) :
    Cert.ReferenceIdeal.Step.R_main_v6 (Cert.ReferenceIdeal.Row.states x s 30) = Cert.KernelIdeal.Array.result m d := by
  funext (i : Cert.ReferenceIdeal.S16x256x1x1.Idx)
  obtain ⟨b, c, p, q, rfl⟩ : ∃ (b : Fin 16) (c : Fin 256) (p q : Fin 1), i = ix4 b c p q :=
    ⟨i 0, i 1, i 2, i 3, by funext a; match a with | ⟨0, _⟩ => rfl | ⟨1, _⟩ => rfl | ⟨2, _⟩ => rfl | ⟨3, _⟩ => rfl⟩
  have hb := b.isLt
  have hc := c.isLt
  let R : Fin 4096 := ⟨256 * b.val + c.val, by omega⟩
  have hscale : Cert.KernelIdeal.Array.scale m d = (σ : EReal) := by
    rw [← e, hs]
  rw [Cert.ReferenceIdeal.Row.result_at, kernel_at m d b c p q R rfl, hscale, e, scaledPooled_eq_pooled hσ]
  congr 1
  funext n
  refine (rows_eq x s b c n R rfl).symm.trans ?_
  subst hx
  rfl

end Cert.Equation

end
-- ==== Proof.lean ====
/- The proof of every claim: the frames are the generated ones, and the value claim joins the kernel's run and the reference's
   at the result the equation makes common. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.StepRun
public import proofs.«01_k».proof.Proof.Gen.Pre_scale_positive
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates with its arguments unchanged and, having no semaphores, none raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The value claim: the kernel and the reference end with one result. -/
theorem values : algebraic_KernelIdeal_ReferenceIdeal_pre_scale_positive := by
  intro m g m' g' hpre hargs
  refine ⟨fun c => Cert.KernelIdeal.Array.result m c, Cert.KernelIdeal.Array.run m g, ?_⟩
  refine (θ_run Cert.ReferenceIdeal.defs _ _).mono (fun r h c => ?_)
    (Cert.ReferenceIdeal.StepRun.run_iter (F := Ideal) m' g'
      (fun c => Cert.ReferenceIdeal.Row.states
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))
      (fun _ => rfl) (fun _ _ => rfl))
  obtain ⟨σ, hσ, e⟩ := Cert.Equation.scale_real _ _ (hpre c)
  exact ⟨(h c).1.trans (Cert.Equation.result_eq m c _ _ (hargs c).1 (hargs c).2 σ hσ ((congrFun (hargs c).2 _).trans e)), (h c).2⟩

/-- Every claim. -/
theorem claim : Cert.Claim :=
  ⟨Cert.Kernel.Gen.facts, Cert.KernelIdeal.Gen.facts, Cert.ReferenceIdeal.Gen.facts, Cert.Pre_scale_positive.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, values⟩

end Cert.Proof

end
